-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x9728 : Shape := ⟨3, ![256, 1, 9728]⟩
abbrev S4864x3968 : Shape := ⟨2, ![4864, 3968]⟩
abbrev S76x3968 : Shape := ⟨2, ![76, 3968]⟩
abbrev S256x9728 : Shape := ⟨2, ![256, 9728]⟩
abbrev S256x3968 : Shape := ⟨2, ![256, 3968]⟩
abbrev S4864x128 : Shape := ⟨2, ![4864, 128]⟩
abbrev S76x128 : Shape := ⟨2, ![76, 128]⟩
abbrev S256x128 : Shape := ⟨2, ![256, 128]⟩
abbrev S256x256 : Shape := ⟨2, ![256, 256]⟩
abbrev S128x128 : Shape := ⟨2, ![128, 128]⟩
abbrev S2x128 : Shape := ⟨2, ![2, 128]⟩
abbrev S128x1x128 : Shape := ⟨3, ![128, 1, 128]⟩
abbrev S128x2x128 : Shape := ⟨3, ![128, 2, 128]⟩
abbrev S2x128x128 : Shape := ⟨3, ![2, 128, 128]⟩
abbrev S2x1x128 : Shape := ⟨3, ![2, 1, 128]⟩
abbrev S256x1x3968 : Shape := ⟨3, ![256, 1, 3968]⟩

abbrev nBuf : Space → Nat
  | .hbm => 10
  | .vmem => 15
  | .smem => 0
  | _ => 0

abbrev bufTy : (tb : Table) → Fin (tcTables nBuf tb) → BufTy
  | .hbm, ⟨0, _⟩ => ⟨S256x1x9728, .bf16⟩
  | .hbm, ⟨1, _⟩ => ⟨S4864x3968, .i8⟩
  | .hbm, ⟨2, _⟩ => ⟨S76x3968, .bf16⟩
  | .hbm, ⟨3, _⟩ => ⟨S76x3968, .bf16⟩
  | .hbm, ⟨4, _⟩ => ⟨S4864x3968, .i8⟩
  | .hbm, ⟨5, _⟩ => ⟨S76x3968, .bf16⟩
  | .hbm, ⟨6, _⟩ => ⟨S76x3968, .bf16⟩
  | .hbm, ⟨7, _⟩ => ⟨S256x9728, .bf16⟩
  | .hbm, ⟨8, _⟩ => ⟨S256x3968, .bf16⟩
  | .hbm, ⟨9, _⟩ => ⟨S256x1x3968, .bf16⟩
  | .local _ .vmem, ⟨0, _⟩ => ⟨S256x9728, .bf16⟩
  | .local _ .vmem, ⟨1, _⟩ => ⟨S4864x128, .i8⟩
  | .local _ .vmem, ⟨2, _⟩ => ⟨S4864x128, .i8⟩
  | .local _ .vmem, ⟨3, _⟩ => ⟨S76x128, .bf16⟩
  | .local _ .vmem, ⟨4, _⟩ => ⟨S76x128, .bf16⟩
  | .local _ .vmem, ⟨5, _⟩ => ⟨S76x128, .bf16⟩
  | .local _ .vmem, ⟨6, _⟩ => ⟨S76x128, .bf16⟩
  | .local _ .vmem, ⟨7, _⟩ => ⟨S4864x128, .i8⟩
  | .local _ .vmem, ⟨8, _⟩ => ⟨S4864x128, .i8⟩
  | .local _ .vmem, ⟨9, _⟩ => ⟨S76x128, .bf16⟩
  | .local _ .vmem, ⟨10, _⟩ => ⟨S76x128, .bf16⟩
  | .local _ .vmem, ⟨11, _⟩ => ⟨S76x128, .bf16⟩
  | .local _ .vmem, ⟨12, _⟩ => ⟨S76x128, .bf16⟩
  | .local _ .vmem, ⟨13, _⟩ => ⟨S256x128, .bf16⟩
  | .local _ .vmem, ⟨14, _⟩ => ⟨S256x128, .bf16⟩
  | _, _ => ⟨S256x1x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x9728 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4864x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S76x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S76x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4864x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S76x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S76x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S256x1x9728 : Shape := ⟨3, ![256, 1, 9728]⟩
abbrev S4864x3968 : Shape := ⟨2, ![4864, 3968]⟩
abbrev S76x3968 : Shape := ⟨2, ![76, 3968]⟩
abbrev S256x9728 : Shape := ⟨2, ![256, 9728]⟩
abbrev S9728x256 : Shape := ⟨2, ![9728, 256]⟩
abbrev S4864x2x256 : Shape := ⟨3, ![4864, 2, 256]⟩
abbrev S2x4864x256 : Shape := ⟨3, ![2, 4864, 256]⟩
abbrev S_ : Shape := ⟨0, ![]⟩
abbrev S9728x3968 : Shape := ⟨2, ![9728, 3968]⟩
abbrev S2x76x64x3968 : Shape := ⟨4, ![2, 76, 64, 3968]⟩
abbrev S1x76x1x3968 : Shape := ⟨4, ![1, 76, 1, 3968]⟩
abbrev S256x3968 : Shape := ⟨2, ![256, 3968]⟩
abbrev S256x1x3968 : Shape := ⟨3, ![256, 1, 3968]⟩

abbrev nBuf : Space → Nat
  | .hbm => 60
  | .vmem => 0
  | .smem => 0
  | _ => 0

abbrev bufTy : (tb : Table) → Fin (tcTables nBuf tb) → BufTy
  | .hbm, ⟨0, _⟩ => ⟨S256x1x9728, .bf16⟩
  | .hbm, ⟨1, _⟩ => ⟨S4864x3968, .i8⟩
  | .hbm, ⟨2, _⟩ => ⟨S76x3968, .bf16⟩
  | .hbm, ⟨3, _⟩ => ⟨S76x3968, .bf16⟩
  | .hbm, ⟨4, _⟩ => ⟨S4864x3968, .i8⟩
  | .hbm, ⟨5, _⟩ => ⟨S76x3968, .bf16⟩
  | .hbm, ⟨6, _⟩ => ⟨S76x3968, .bf16⟩
  | .hbm, ⟨7, _⟩ => ⟨S256x9728, .bf16⟩
  | .hbm, ⟨8, _⟩ => ⟨S9728x256, .bf16⟩
  | .hbm, ⟨9, _⟩ => ⟨S4864x2x256, .bf16⟩
  | .hbm, ⟨10, _⟩ => ⟨S2x4864x256, .bf16⟩
  | .hbm, ⟨11, _⟩ => ⟨S9728x256, .bf16⟩
  | .hbm, ⟨12, _⟩ => ⟨S4864x3968, .i32⟩
  | .hbm, ⟨13, _⟩ => ⟨S_, .i32⟩
  | .hbm, ⟨14, _⟩ => ⟨S4864x3968, .i32⟩
  | .hbm, ⟨15, _⟩ => ⟨S4864x3968, .i32⟩
  | .hbm, ⟨16, _⟩ => ⟨S_, .i32⟩
  | .hbm, ⟨17, _⟩ => ⟨S4864x3968, .i32⟩
  | .hbm, ⟨18, _⟩ => ⟨S4864x3968, .i32⟩
  | .hbm, ⟨19, _⟩ => ⟨S9728x3968, .i32⟩
  | .hbm, ⟨20, _⟩ => ⟨S9728x3968, .bf16⟩
  | .hbm, ⟨21, _⟩ => ⟨S2x76x64x3968, .bf16⟩
  | .hbm, ⟨22, _⟩ => ⟨S1x76x1x3968, .bf16⟩
  | .hbm, ⟨23, _⟩ => ⟨S2x76x64x3968, .bf16⟩
  | .hbm, ⟨24, _⟩ => ⟨S2x76x64x3968, .bf16⟩
  | .hbm, ⟨25, _⟩ => ⟨S1x76x1x3968, .bf16⟩
  | .hbm, ⟨26, _⟩ => ⟨S2x76x64x3968, .bf16⟩
  | .hbm, ⟨27, _⟩ => ⟨S2x76x64x3968, .bf16⟩
  | .hbm, ⟨28, _⟩ => ⟨S9728x3968, .bf16⟩
  | .hbm, ⟨29, _⟩ => ⟨S256x3968, .f32⟩
  | .hbm, ⟨30, _⟩ => ⟨S4864x3968, .i32⟩
  | .hbm, ⟨31, _⟩ => ⟨S_, .i32⟩
  | .hbm, ⟨32, _⟩ => ⟨S4864x3968, .i32⟩
  | .hbm, ⟨33, _⟩ => ⟨S4864x3968, .i32⟩
  | .hbm, ⟨34, _⟩ => ⟨S_, .i32⟩
  | .hbm, ⟨35, _⟩ => ⟨S4864x3968, .i32⟩
  | .hbm, ⟨36, _⟩ => ⟨S4864x3968, .i32⟩
  | .hbm, ⟨37, _⟩ => ⟨S9728x3968, .i32⟩
  | .hbm, ⟨38, _⟩ => ⟨S9728x3968, .bf16⟩
  | .hbm, ⟨39, _⟩ => ⟨S2x76x64x3968, .bf16⟩
  | .hbm, ⟨40, _⟩ => ⟨S1x76x1x3968, .bf16⟩
  | .hbm, ⟨41, _⟩ => ⟨S2x76x64x3968, .bf16⟩
  | .hbm, ⟨42, _⟩ => ⟨S2x76x64x3968, .bf16⟩
  | .hbm, ⟨43, _⟩ => ⟨S1x76x1x3968, .bf16⟩
  | .hbm, ⟨44, _⟩ => ⟨S2x76x64x3968, .bf16⟩
  | .hbm, ⟨45, _⟩ => ⟨S2x76x64x3968, .bf16⟩
  | .hbm, ⟨46, _⟩ => ⟨S9728x3968, .bf16⟩
  | .hbm, ⟨47, _⟩ => ⟨S256x3968, .f32⟩
  | .hbm, ⟨48, _⟩ => ⟨S256x3968, .f32⟩
  | .hbm, ⟨49, _⟩ => ⟨S256x3968, .f32⟩
  | .hbm, ⟨50, _⟩ => ⟨S_, .f32⟩
  | .hbm, ⟨51, _⟩ => ⟨S256x3968, .f32⟩
  | .hbm, ⟨52, _⟩ => ⟨S256x3968, .f32⟩
  | .hbm, ⟨53, _⟩ => ⟨S_, .f32⟩
  | .hbm, ⟨54, _⟩ => ⟨S256x3968, .f32⟩
  | .hbm, ⟨55, _⟩ => ⟨S256x3968, .f32⟩
  | .hbm, ⟨56, _⟩ => ⟨S256x3968, .f32⟩
  | .hbm, ⟨57, _⟩ => ⟨S256x3968, .f32⟩
  | .hbm, ⟨58, _⟩ => ⟨S256x3968, .bf16⟩
  | .hbm, ⟨59, _⟩ => ⟨S256x1x3968, .bf16⟩
  | _, _ => ⟨S256x1x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Proof.Formula.lean ====
/-
  The mathematics both programs compute, over the extended reals and over plain coordinates: a weight packed two 4-bit codes to
  a byte, dequantized by a scale and a minimum per group of 128 rows, multiplied by the activations, and the gate of two such
  products. Neither program's blocks, shapes or row order occur here.
-/
module

public import Idealize.ShloMosaic.Lib.Pointwise

@[expose] public section

noncomputable section

namespace Cert.Formula

open Idealize.ShloMosaic

/-- A byte's 4-bit code: `p = 0` the low nibble, otherwise the high one, as an unsigned integer. -/
def nib (b : BitVec 8) (p : ℕ) : EReal := (((if p = 0 then b.toNat % 16 else b.toNat / 16 : ℕ) : ℝ) : EReal)

/-- The dequantized weight at row `k`, column `o`: row `k`'s code lies in byte row `k / 2` (even rows in the low nibble), its
    scale and minimum in row `k / 128`. -/
def weight (W : Fin 4864 → Fin 3968 → BitVec 8) (S M : Fin 76 → Fin 3968 → EReal) (k : Fin 9728) (o : Fin 3968) : EReal :=
  nib (W ⟨k.val / 2, by omega⟩ o) (k.val % 2) * S ⟨k.val / 128, by omega⟩ o + M ⟨k.val / 128, by omega⟩ o

/-- The activations times the dequantized weight, at row `r`, column `o`. -/
def proj (X : Fin 256 → Fin 9728 → EReal) (W : Fin 4864 → Fin 3968 → BitVec 8) (S M : Fin 76 → Fin 3968 → EReal)
    (r : Fin 256) (o : Fin 3968) : EReal :=
  ∑ k : Fin 9728, X r k * weight W S M k o

/-- The gate of two numbers, `g · logistic(g) · u`. -/
def gated (g u : EReal) : EReal := g * Ideal.logistic g * u

/-- The low nibble read by a mask, as the reference reads it. -/
theorem nib_andi : ∀ b : BitVec 8, (IntOp.andi (b.setWidth 32) 15#32).toNat = b.toNat % 16 := by decide +kernel

/-- The high nibble read by a logical shift on the host, as the reference reads it. -/
theorem nib_shrui : ∀ b : BitVec 8, (IntOp.shrui ArithUnit.host (b.setWidth 32) 4#32).toNat = b.toNat / 16 := by decide +kernel

/-- The low nibble read by a mask and cut to 4 bits, as the kernel reads it. -/
theorem nib_andi4 : ∀ b : BitVec 8, ((IntOp.andi (b.setWidth 32) 15#32).setWidth 4).toNat = b.toNat % 16 := by decide +kernel

/-- The high nibble read by an arithmetic shift of the zero-extended byte and cut to 4 bits, as the kernel reads it. -/
theorem nib_shrsi4 : ∀ b : BitVec 8, ((IntOp.shrsi ArithUnit.vector (b.setWidth 32) 4#32).setWidth 4).toNat = b.toNat / 16 := by
  decide +kernel

/-- Every row number is twice a byte row plus a nibble; listing the even rows before the odd ones only reorders a sum. -/
theorem sum_even_odd (f : Fin 9728 → EReal) :
    ∑ k : Fin 9728, f ⟨k.val % 4864 * 2 + k.val / 4864, by omega⟩ = ∑ k : Fin 9728, f k :=
  Finset.sum_nbij' (fun k : Fin 9728 => (⟨k.val % 4864 * 2 + k.val / 4864, by omega⟩ : Fin 9728))
    (fun k : Fin 9728 => (⟨k.val % 2 * 4864 + k.val / 2, by omega⟩ : Fin 9728))
    (fun _ _ => Finset.mem_univ _) (fun _ _ => Finset.mem_univ _)
    (fun k _ => Fin.ext (by simp only []; omega)) (fun k _ => Fin.ext (by simp only []; omega)) (fun _ _ => rfl)

/-- A sum over 38 chunks of 256 rows is the sum over all rows. -/
theorem sum_chunks (f : Fin 9728 → EReal) :
    ∑ n : Fin 38, ∑ k : Fin 256, f ⟨256 * n.val + k.val, by omega⟩ = ∑ k : Fin 9728, f k := by
  rw [Fin.sum_univ_tiles 38 256 rfl f]
  exact Finset.sum_congr rfl fun n _ => Finset.sum_congr rfl fun k _ => congrArg f (Fin.ext (by simp only []; omega))

end Cert.Formula

end
-- ==== Proof.Chunk.lean ====
/-
  What one grid point of the kernel computes, said chunk by chunk. The generated payloads cut the body at fixed statement
  counts; here the same body is one step repeated: dequantize 256 rows of the gate and of the up weight, put the two tiles side
  by side, multiply the matching 256 columns of the activations by them and add to the accumulator.
-/
module

public import proofs.«01_k».proof.Proof.Gen.KernelIdeal.Frame
public import Idealize.ShloMosaic.Lib.Pipeline.ValueKit

@[expose] public section

set_option maxRecDepth 16384

noncomputable section

namespace Cert.KernelIdeal.Chunk

open Idealize.ShloMosaic Idealize.SL.Sem
open Cert.KernelIdeal Cert.KernelIdeal.Gen

variable {F : FTy → Type} [FloatOps F]

/-- Dequantize one tile: every packed byte gives two codes (low nibble first), two rows of the tile; row `k` is scaled and
    shifted by row `k / 128` of the two scale rows and the two minimum rows. -/
def deq (w : Vec F S128x128 .i8) (s mn : Vec F S2x128 .bf16) : FVec F S256x128 .bf16 :=
  have wide : IVec S128x128 32 := extui 32 w natLt_8_32
  have lo : IVec S128x128 32 := andi wide (broadcast S128x128 15#32)
  have hi : IVec S128x128 32 := shrsi wide (broadcast S128x128 4#32)
  have both : IVec S128x2x128 32 := concatenate S128x2x128 1
    [⟨S128x1x128, shapeCast S128x1x128 lo shapeCasts_S128x128_S128x1x128⟩,
     ⟨S128x1x128, shapeCast S128x1x128 hi shapeCasts_S128x128_S128x1x128⟩] concatenates_S128x1x128_S128x1x128_S128x2x128_d1
  have codes : FVec F S256x128 .bf16 := uitofp .bf16 (trunci 4 (shapeCast S256x128 both shapeCasts_S128x2x128_S256x128) natLt_4_32)
  have scaled : FVec F S2x128x128 .bf16 := mulf (shapeCast S2x128x128 codes shapeCasts_S256x128_S2x128x128)
    (broadcastTo S2x128x128 (shapeCast S2x1x128 s shapeCasts_S2x128_S2x1x128) broadcasts_S2x1x128_S2x128x128)
  have shifted : FVec F S2x128x128 .bf16 := addf scaled
    (broadcastTo S2x128x128 (shapeCast S2x1x128 mn shapeCasts_S2x128_S2x1x128) broadcasts_S2x1x128_S2x128x128)
  shapeCast S256x128 shifted shapeCasts_S2x128x128_S256x128

/-- One chunk: the accumulator plus the product of the activations' chunk with the gate tile and the up tile side by side. -/
def step (acc : FVec F S256x256 .f32) (x : Vec F S256x256 .bf16) (wg : Vec F S128x128 .i8) (sg mg : Vec F S2x128 .bf16)
    (wu : Vec F S128x128 .i8) (su mu : Vec F S2x128 .bf16) : FVec F S256x256 .f32 :=
  addf acc (matmul dot_S256x256_S256x256_S256x256_1_0_0_1_n_n none (shapeCast S256x256 x shapeCasts_S256x256_S256x256)
    (concatenate S256x256 1 [⟨S256x128, deq wg sg mg⟩, ⟨S256x128, deq wu su mu⟩] concatenates_S256x128_S256x128_S256x256_d1)
    (constant S256x256 .f32 0x00000000#32))

/-- After the last chunk: gate is the left half of the accumulator, up the right half; the result is
    `gate · logistic(gate) · up`, rounded to the output format. -/
def fin (acc : FVec F S256x256 .f32) : FVec F S256x128 .bf16 :=
  have gate : FVec F S256x128 .f32 := extractStridedSlice S256x128 ![0, 0] acc slices_S256x256_o0_0_S256x128
  have up : FVec F S256x128 .f32 := extractStridedSlice S256x128 ![0, 128] acc slices_S256x256_o0_128_S256x128
  truncf .bf16 (mulf (mulf gate (logistic gate)) up) bitsLt_bf16_f32

/-- Chunk `n`'s 128 packed rows. -/
abbrev rW (n : ℕ) (h : n < 38) : Rect S4864x128 := Rect.unit (s := S4864x128) ![128 * n, 0] S128x128.size
  (by intro a; fin_cases a <;> simp <;> omega)
/-- Chunk `n`'s two scale (or minimum) rows. -/
abbrev rS (n : ℕ) (h : n < 38) : Rect S76x128 := Rect.unit (s := S76x128) ![2 * n, 0] S2x128.size
  (by intro a; fin_cases a <;> simp <;> omega)
/-- Chunk `n`'s 256 columns of the activations. -/
abbrev rX (n : ℕ) (h : n < 38) : Rect S256x9728 := Rect.unit (s := S256x9728) ![0, 256 * n] S256x256.size
  (by intro a; fin_cases a <;> simp <;> omega)

/-- The accumulator after the first `n` chunks, over the point's seven input blocks. -/
def accum (x0 : Vec F S256x9728 .bf16) (x1 : Vec F S4864x128 .i8) (x2 x3 : Vec F S76x128 .bf16) (x4 : Vec F S4864x128 .i8)
    (x5 x6 : Vec F S76x128 .bf16) : (n : ℕ) → n ≤ 38 → FVec F S256x256 .f32
  | 0, _ => broadcast S256x256 (Scalar.ofBits .f32 0x00000000#32)
  | n + 1, h => step (accum x0 x1 x2 x3 x4 x5 x6 n (Nat.le_of_lt h)) (View.ld x0 (rX n h)) (View.ld x1 (rW n h)) (View.ld x2 (rS n h))
      (View.ld x3 (rS n h)) (View.ld x4 (rW n h)) (View.ld x5 (rS n h)) (View.ld x6 (rS n h))

/-- The block a grid point stores is the 38-chunk accumulator put through the gate. -/
theorem out_eq (x0 : Vec F S256x9728 .bf16) (x1 : Vec F S4864x128 .i8) (x2 x3 : Vec F S76x128 .bf16) (x4 : Vec F S4864x128 .i8)
    (x5 x6 : Vec F S76x128 .bf16) : out0_7 x0 x1 x2 x3 x4 x5 x6 = fin (accum x0 x1 x2 x3 x4 x5 x6 38 (Nat.le_refl _)) := by
  have hz : (![0, 0] : Fin S256x128.rank → Nat) = fun _ => 0 := funext fun a => by fin_cases a <;> rfl
  unfold out0_7
  rw [View.canon_unit_zero hz]
  rfl

end Cert.KernelIdeal.Chunk

end
-- ==== Proof.Block.lean ====
/-
  What one grid point stores, over the extended reals: the block's element at row `r`, lane `c` is the gate of two sums over all
  9728 contraction rows, read from the point's input blocks.
-/
module

public import proofs.«01_k».proof.Proof.Formula
public import proofs.«01_k».proof.Proof.Chunk

@[expose] public section

set_option maxRecDepth 16384

noncomputable section

namespace Cert.KernelIdeal.Block

open Idealize.ShloMosaic Idealize.SL.Sem
open Cert.KernelIdeal Cert.KernelIdeal.Gen Cert.KernelIdeal.Chunk

/-- One dequantized tile at row `k`, lane `c`. -/
theorem deq_at (w : Vec Ideal S128x128 .i8) (s mn : Vec Ideal S2x128 .bf16) (k : Fin 256) (c : Fin 128) :
    deq (F := Ideal) w s mn (ix2 k c)
      = Formula.nib (w (ix2 ⟨k.val / 2, by omega⟩ c)) (k.val % 2) * s (ix2 ⟨k.val / 128, by omega⟩ c)
        + mn (ix2 ⟨k.val / 128, by omega⟩ c) := by
  pointwise [deq]
  unfold Formula.nib
  by_cases h : k.val % 2 < 1
  · have hp : k.val % 2 = 0 := by omega
    simp only [dif_pos h, if_pos hp]
    refine congrArg (fun v : EReal => v * _ + _) ?_
    exact congrArg (fun n : ℕ => ((n : ℝ) : EReal)) (Formula.nib_andi4 _)
  · have hp : ¬ k.val % 2 = 0 := by omega
    simp only [dif_neg h, if_neg hp]
    refine congrArg (fun v : EReal => v * _ + _) ?_
    exact congrArg (fun n : ℕ => ((n : ℝ) : EReal)) (Formula.nib_shrsi4 _)

/-- One chunk on the gate half (lanes below 128) of the accumulator. -/
theorem step_gate (acc : FVec Ideal S256x256 .f32) (x : Vec Ideal S256x256 .bf16) (wg : Vec Ideal S128x128 .i8)
    (sg mg : Vec Ideal S2x128 .bf16) (wu : Vec Ideal S128x128 .i8) (su mu : Vec Ideal S2x128 .bf16) (r : Fin 256) (c : Fin 128) :
    step (F := Ideal) acc x wg sg mg wu su mu (ix2 r ⟨c.val, by omega⟩)
      = acc (ix2 r ⟨c.val, by omega⟩) + ∑ k : Fin 256, x (ix2 r k) * deq (F := Ideal) wg sg mg (ix2 k c) := by
  pointwise [step]

/-- One chunk on the up half (lanes from 128 on) of the accumulator. -/
theorem step_up (acc : FVec Ideal S256x256 .f32) (x : Vec Ideal S256x256 .bf16) (wg : Vec Ideal S128x128 .i8)
    (sg mg : Vec Ideal S2x128 .bf16) (wu : Vec Ideal S128x128 .i8) (su mu : Vec Ideal S2x128 .bf16) (r : Fin 256) (c : Fin 128) :
    step (F := Ideal) acc x wg sg mg wu su mu (ix2 r ⟨128 + c.val, by omega⟩)
      = acc (ix2 r ⟨128 + c.val, by omega⟩) + ∑ k : Fin 256, x (ix2 r k) * deq (F := Ideal) wu su mu (ix2 k c) := by
  pointwise [step]

/-- A whole weight block dequantized at contraction row `K`, lane `c`. -/
def blockWeight (w : Vec Ideal S4864x128 .i8) (s mn : Vec Ideal S76x128 .bf16) (K : Fin 9728) (c : Fin 128) : EReal :=
  Formula.nib (w (ix2 ⟨K.val / 2, by omega⟩ c)) (K.val % 2) * s (ix2 ⟨K.val / 128, by omega⟩ c)
    + mn (ix2 ⟨K.val / 128, by omega⟩ c)

/-- Chunk `n`'s tile is the whole block's rows `256 n … 256 n + 255`. -/
theorem deq_ld (w : Vec Ideal S4864x128 .i8) (s mn : Vec Ideal S76x128 .bf16) (n : ℕ) (h : n < 38) (k : Fin 256) (c : Fin 128) :
    deq (F := Ideal) (View.ld w (rW n h)) (View.ld s (rS n h)) (View.ld mn (rS n h)) (ix2 k c)
      = blockWeight w s mn ⟨256 * n + k.val, by omega⟩ c := by
  refine (deq_at _ _ _ k c).trans ?_
  unfold blockWeight
  pointwise
  have e1 : (256 * n + k.val) / 2 = 128 * n + k.val / 2 := by omega
  have e2 : (256 * n + k.val) % 2 = k.val % 2 := by omega
  have e3 : (256 * n + k.val) / 128 = 2 * n + k.val / 128 := by omega
  simp only [e1, e2, e3]

/-- Chunk `n`'s activations are the columns `256 n … 256 n + 255`. -/
theorem x_ld (x : Vec Ideal S256x9728 .bf16) (n : ℕ) (h : n < 38) (r k : Fin 256) :
    (View.ld x (rX n h) : Vec Ideal S256x256 .bf16) (ix2 r k) = x (ix2 r ⟨256 * n + k.val, by omega⟩) := by
  pointwise

/-- The final gate at row `r`, lane `c`. -/
theorem fin_at (acc : FVec Ideal S256x256 .f32) (r : Fin 256) (c : Fin 128) :
    fin (F := Ideal) acc (ix2 r c)
      = Formula.gated (acc (ix2 r ⟨c.val, by omega⟩)) (acc (ix2 r ⟨128 + c.val, by omega⟩)) := by
  pointwise [fin]
  rfl

section
variable (x0 : Vec Ideal S256x9728 .bf16) (x1 : Vec Ideal S4864x128 .i8) (x2 x3 : Vec Ideal S76x128 .bf16)
  (x4 : Vec Ideal S4864x128 .i8) (x5 x6 : Vec Ideal S76x128 .bf16)

/-- Row `r` of the activations times lane `c` of a dequantized block, chunk `n`'s share. -/
def share (w : Vec Ideal S4864x128 .i8) (s mn : Vec Ideal S76x128 .bf16) (r : Fin 256) (c : Fin 128) (n : Fin 38) : EReal :=
  ∑ k : Fin 256, x0 (ix2 r ⟨256 * n.val + k.val, by omega⟩) * blockWeight w s mn ⟨256 * n.val + k.val, by omega⟩ c

/-- The gate half of the accumulator after `n` chunks is the sum of their shares. -/
theorem accum_gate (r : Fin 256) (c : Fin 128) : (n : ℕ) → (h : n ≤ 38) →
    accum (F := Ideal) x0 x1 x2 x3 x4 x5 x6 n h (ix2 r ⟨c.val, by omega⟩)
      = ∑ i : Fin n, share x0 x1 x2 x3 r c ⟨i.val, by omega⟩
  | 0, _ => by pointwise [accum]; rfl
  | n + 1, h => by
    rw [Fin.sum_univ_castSucc, accum]
    refine (step_gate _ _ _ _ _ _ _ _ r c).trans ?_
    rw [accum_gate r c n (Nat.le_of_lt h)]
    exact congrArg (_ + ·) (Finset.sum_congr rfl fun k _ => by rw [deq_ld, x_ld]; rfl)

/-- The up half of the accumulator after `n` chunks is the sum of their shares. -/
theorem accum_up (r : Fin 256) (c : Fin 128) : (n : ℕ) → (h : n ≤ 38) →
    accum (F := Ideal) x0 x1 x2 x3 x4 x5 x6 n h (ix2 r ⟨128 + c.val, by omega⟩)
      = ∑ i : Fin n, share x0 x4 x5 x6 r c ⟨i.val, by omega⟩
  | 0, _ => by pointwise [accum]; rfl
  | n + 1, h => by
    rw [Fin.sum_univ_castSucc, accum]
    refine (step_up _ _ _ _ _ _ _ _ r c).trans ?_
    rw [accum_up r c n (Nat.le_of_lt h)]
    exact congrArg (_ + ·) (Finset.sum_congr rfl fun k _ => by rw [deq_ld, x_ld]; rfl)

/-- The block a grid point stores, at row `r`, lane `c`. -/
theorem out_at (r : Fin 256) (c : Fin 128) :
    out0_7 (F := Ideal) x0 x1 x2 x3 x4 x5 x6 (ix2 r c)
      = Formula.gated (∑ K : Fin 9728, x0 (ix2 r K) * blockWeight x1 x2 x3 K c)
          (∑ K : Fin 9728, x0 (ix2 r K) * blockWeight x4 x5 x6 K c) := by
  rw [out_eq, fin_at, accum_gate, accum_up]
  exact congrArg₂ Formula.gated (Formula.sum_chunks fun K => x0 (ix2 r K) * blockWeight x1 x2 x3 K c)
    (Formula.sum_chunks fun K => x0 (ix2 r K) * blockWeight x4 x5 x6 K c)

end

end Cert.KernelIdeal.Block

end
-- ==== Proof.Array.lean ====
/-
  What the result array holds after the kernel's run, over the extended reals: at row `r`, column `o`, the gate of the two
  products of Proof/Formula.lean at the kernel's arguments. The 31 column blocks tile the array, and each block is one grid
  point's store.
-/
module

public import proofs.«01_k».proof.Proof.Block

@[expose] public section

set_option maxRecDepth 16384

noncomputable section

namespace Cert.KernelIdeal.Array

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The gate of the two products of the arguments, at row `r`, column `o`. -/
def value (X : FVec Ideal S256x1x9728 .bf16) (Wg : IVec S4864x3968 8) (Sg Mg : FVec Ideal S76x3968 .bf16)
    (Wu : IVec S4864x3968 8) (Su Mu : FVec Ideal S76x3968 .bf16) (r : Fin 256) (o : Fin 3968) : EReal :=
  Formula.gated
    (Formula.proj (fun r k => X (ix3 r 0 k)) (fun i j => Wg (ix2 i j)) (fun i j => Sg (ix2 i j)) (fun i j => Mg (ix2 i j)) r o)
    (Formula.proj (fun r k => X (ix3 r 0 k)) (fun i j => Wu (ix2 i j)) (fun i j => Su (ix2 i j)) (fun i j => Mu (ix2 i j)) r o)

/-- The values as the 256 × 3968 array the kernel writes. -/
def G (X : FVec Ideal S256x1x9728 .bf16) (Wg : IVec S4864x3968 8) (Sg Mg : FVec Ideal S76x3968 .bf16)
    (Wu : IVec S4864x3968 8) (Su Mu : FVec Ideal S76x3968 .bf16) : FVec Ideal S256x3968 .bf16 :=
  fun j => value X Wg Sg Mg Wu Su Mu (j 0) (j 1)

/-- Every window's block index: the activations are one block, the others move along the columns with the grid point. -/
theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val]
    ∧ win0_6.index t = ![0, t.val] ∧ win0_7.index t = ![0, t.val] :=
  (by decide +kernel : ∀ t : Fin grid0.N, _)

/-- The first window's array on entry: the activations with their unit axis dropped. -/
theorem entry0 (c : Dev nD) : V m c main_v0
    = shapeCast S256x9728 (m ((c : Thread nD τ).loc main_arg0)) shapeCasts_S256x1x9728_S256x9728 := by
  show StableHlo.after hostOps0 (fun b => m (c, b)) (Proc.devRef .tc main_v0) = _
  after_results
  rfl

/-- Dropping the activations' unit axis, read at an index. -/
theorem unit_at (X : FVec Ideal S256x1x9728 .bf16) (r : Fin 256) (k : Fin 9728) :
    shapeCast S256x9728 X shapeCasts_S256x1x9728_S256x9728 (ix2 r k) = X (ix3 r 0 k) := by
  pointwise

/-- The block of the activations at every point: the argument, its unit axis dropped. -/
theorem read0 (c : Dev nD) (t : Fin cfg0.N) (r : Fin 256) (k : Fin 9728) :
    (iblk m c 0 t : Vec Ideal S256x9728 .bf16) (ix2 r k) = (m ((c : Thread nD τ).loc main_arg0)) (ix3 r 0 k) := by
  have e : (((cfg0.win 0).blk t).view.emb (ix2 r k) : S256x9728.Idx) = ix2 r k := by
    blk_ext [idx t]
  have hv : (iblk m c 0 t : Vec Ideal S256x9728 .bf16) (ix2 r k) = (V m c main_v0 : Vec Ideal S256x9728 .bf16) (ix2 r k) :=
    congrArg (V m c main_v0 : Vec Ideal S256x9728 .bf16) e
  rw [hv, entry0]
  exact unit_at _ r k

/-- The block of the packed gate weight at a point: 128 columns of the argument. -/
theorem read1 (c : Dev nD) (t : Fin cfg0.N) (i : Fin 4864) (l : Fin 128) (o : Fin 3968) (h : o.val = t.val * 128 + l.val) :
    (iblk m c 1 t : Vec Ideal S4864x128 .i8) (ix2 i l) = (m ((c : Thread nD τ).loc main_arg1)) (ix2 i o) := by
  blk_ext [iblk, V, idx t]

/-- The block of the gate scales at a point: 128 columns of the argument. -/
theorem read2 (c : Dev nD) (t : Fin cfg0.N) (i : Fin 76) (l : Fin 128) (o : Fin 3968) (h : o.val = t.val * 128 + l.val) :
    (iblk m c 2 t : Vec Ideal S76x128 .bf16) (ix2 i l) = (m ((c : Thread nD τ).loc main_arg2)) (ix2 i o) := by
  blk_ext [iblk, V, idx t]

/-- The block of the gate minimums at a point: 128 columns of the argument. -/
theorem read3 (c : Dev nD) (t : Fin cfg0.N) (i : Fin 76) (l : Fin 128) (o : Fin 3968) (h : o.val = t.val * 128 + l.val) :
    (iblk m c 3 t : Vec Ideal S76x128 .bf16) (ix2 i l) = (m ((c : Thread nD τ).loc main_arg3)) (ix2 i o) := by
  blk_ext [iblk, V, idx t]

/-- The block of the packed up weight at a point: 128 columns of the argument. -/
theorem read4 (c : Dev nD) (t : Fin cfg0.N) (i : Fin 4864) (l : Fin 128) (o : Fin 3968) (h : o.val = t.val * 128 + l.val) :
    (iblk m c 4 t : Vec Ideal S4864x128 .i8) (ix2 i l) = (m ((c : Thread nD τ).loc main_arg4)) (ix2 i o) := by
  blk_ext [iblk, V, idx t]

/-- The block of the up scales at a point: 128 columns of the argument. -/
theorem read5 (c : Dev nD) (t : Fin cfg0.N) (i : Fin 76) (l : Fin 128) (o : Fin 3968) (h : o.val = t.val * 128 + l.val) :
    (iblk m c 5 t : Vec Ideal S76x128 .bf16) (ix2 i l) = (m ((c : Thread nD τ).loc main_arg5)) (ix2 i o) := by
  blk_ext [iblk, V, idx t]

/-- The block of the up minimums at a point: 128 columns of the argument. -/
theorem read6 (c : Dev nD) (t : Fin cfg0.N) (i : Fin 76) (l : Fin 128) (o : Fin 3968) (h : o.val = t.val * 128 + l.val) :
    (iblk m c 6 t : Vec Ideal S76x128 .bf16) (ix2 i l) = (m ((c : Thread nD τ).loc main_arg6)) (ix2 i o) := by
  blk_ext [iblk, V, idx t]

/-- What a grid point stores at row `r`, lane `l` is the result at row `r`, column `128 t + l`. -/
theorem point (c : Dev nD) (t : Fin cfg0.N) (r : Fin 256) (l : Fin 128) (o : Fin 3968) (h : o.val = t.val * 128 + l.val) :
    out0_7 (F := Ideal) (iblk m c 0 t) (iblk m c 1 t) (iblk m c 2 t) (iblk m c 3 t) (iblk m c 4 t) (iblk m c 5 t) (iblk m c 6 t)
        (ix2 r l)
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) r o := by
  refine (Block.out_at _ _ _ _ _ _ _ r l).trans ?_
  unfold value Formula.proj Formula.weight Block.blockWeight
  simp only [read0, read1 m c t _ l o h, read2 m c t _ l o h, read3 m c t _ l o h, read4 m c t _ l o h, read5 m c t _ l o h,
    read6 m c t _ l o h]

/-- The array the kernel writes, after the run. -/
theorem final (c : Dev nD) : (dats m 0 c).arrAt 7 (cfgs 0).N
    = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 7 _ (by decide +kernel) fun t _ y => ?_
  blk_simp
  rw [after0_7]
  idx_vars y
  refine (point m c t y0 y1 ⟨t.val * 128 + y1.val, by have := lt_of_lt_of_eq t.isLt N_0; omega⟩ rfl).trans ?_
  unfold G
  refine congrArg₂ (value _ _ _ _ _ _ _) (Fin.ext ?_) (Fin.ext ?_)
  all_goals (blk_simp [idx t])

end Cert.KernelIdeal.Array

end
-- ==== Proof.RefRead.lean ====
/-
  What the reference computes: its result, named operation by operation, read at an index is the formula of
  Proof/Formula.lean.
-/
module

public import proofs.«01_k».proof.Proof.Formula
public import proofs.«01_k».proof.Proof.Gen.ReferenceIdeal.Run

@[expose] public section

set_option maxRecDepth 16384

noncomputable section

namespace Cert.ReferenceIdeal.Read

open Idealize.ShloMosaic Idealize.ShloMosaic.TcCoe Idealize.SL.Sem
open Cert.ReferenceIdeal Cert.ReferenceIdeal.Gen

section
variable {F : FTy → Type} [FloatOps F]

/-- The activations as the reference multiplies them: contraction rows first, the even columns before the odd ones. -/
def acts (X : FVec F S256x1x9728 .bf16) : FVec F S9728x256 .bf16 :=
  shapeCast S9728x256 (transpose S2x4864x256 [1, 0, 2] (shapeCast S4864x2x256 (transpose S9728x256 [1, 0]
    (shapeCast S256x9728 X shapeCasts_S256x1x9728_S256x9728) transposes_S256x9728_S9728x256_1_0)
    shapeCasts_S9728x256_S4864x2x256) transposes_S4864x2x256_S2x4864x256_1_0_2) shapeCasts_S2x4864x256_S9728x256

/-- A weight as the reference dequantizes it: the low nibbles of all bytes, then the high ones, scaled and shifted. -/
def deq (W : IVec S4864x3968 8) (S M : FVec F S76x3968 .bf16) : FVec F S9728x3968 .bf16 :=
  shapeCast S9728x3968 (addf (mulf (shapeCast S2x76x64x3968 (uitofp .bf16 (concatenate S9728x3968 0
      [⟨S4864x3968, andi (extui 32 W natLt_8_32) (broadcastInDim S4864x3968 ![] bcast_S_S4864x3968 (constantI S_ 32 15#32))⟩,
       ⟨S4864x3968, Host.shrui (extui 32 W natLt_8_32) (broadcastInDim S4864x3968 ![] bcast_S_S4864x3968 (constantI S_ 32 4#32))⟩]
      concatenates_S4864x3968_S4864x3968_S9728x3968_d0)) shapeCasts_S9728x3968_S2x76x64x3968)
    (broadcastInDim S2x76x64x3968 ![0, 1, 2, 3] bcast_S1x76x1x3968_S2x76x64x3968_0_1_2_3
      (broadcastInDim S1x76x1x3968 ![1, 3] bcast_S76x3968_S1x76x1x3968_1_3 S)))
    (broadcastInDim S2x76x64x3968 ![0, 1, 2, 3] bcast_S1x76x1x3968_S2x76x64x3968_0_1_2_3
      (broadcastInDim S1x76x1x3968 ![1, 3] bcast_S76x3968_S1x76x1x3968_1_3 M))) shapeCasts_S2x76x64x3968_S9728x3968

/-- One of the reference's two products. -/
def prod (X : FVec F S256x1x9728 .bf16) (W : IVec S4864x3968 8) (S M : FVec F S76x3968 .bf16) : FVec F S256x3968 .f32 :=
  Host.dotGeneral dot_S9728x256_S9728x3968_S256x3968_0_0_1_1_n_n none (acts X) (deq W S M)

/-- The gate of the two products, in the result's shape. -/
def act (g u : FVec F S256x3968 .f32) : FVec F S256x1x3968 .bf16 :=
  shapeCast S256x1x3968 (truncf .bf16 (mulf (mulf g (Host.divf
      (broadcastInDim S256x3968 ![] bcast_S_S256x3968 (constant S_ .f32 0x3F800000#32))
      (addf (broadcastInDim S256x3968 ![] bcast_S_S256x3968 (constant S_ .f32 0x3F800000#32)) (Host.exp (Host.negf g))))) u)
    bitsLt_bf16_f32) shapeCasts_S256x3968_S256x1x3968

/-- The reference's result is the gate of its two products of the arguments. -/
theorem res_eq (m : (ℓ : Loc nD τ sig) → Buf (Elt F) ℓ) (c : Dev nD) : Value.res_out0 m c
    = act (prod (m ((c.tc : Thread nD τ).loc main_arg0)) (m ((c.tc : Thread nD τ).loc main_arg1))
        (m ((c.tc : Thread nD τ).loc main_arg2)) (m ((c.tc : Thread nD τ).loc main_arg3)))
      (prod (m ((c.tc : Thread nD τ).loc main_arg0)) (m ((c.tc : Thread nD τ).loc main_arg4))
        (m ((c.tc : Thread nD τ).loc main_arg5)) (m ((c.tc : Thread nD τ).loc main_arg6))) := rfl

end

/-- The reference's activations at a contraction row: the column the row was moved from. -/
theorem acts_at (X : FVec Ideal S256x1x9728 .bf16) (k : Fin 9728) (r : Fin 256) :
    acts (F := Ideal) X (ix2 k r) = X (ix3 r 0 ⟨k.val % 4864 * 2 + k.val / 4864, by omega⟩) := by
  pointwise [acts]

/-- The reference's dequantized weight at a contraction row: the formula's weight at the row it was moved from. -/
theorem deq_at (W : IVec S4864x3968 8) (S M : FVec Ideal S76x3968 .bf16) (k : Fin 9728) (o : Fin 3968) :
    deq (F := Ideal) W S M (ix2 k o)
      = Formula.weight (fun i j => W (ix2 i j)) (fun i j => S (ix2 i j)) (fun i j => M (ix2 i j))
          ⟨k.val % 4864 * 2 + k.val / 4864, by omega⟩ o := by
  pointwise [deq]
  unfold Formula.weight Formula.nib
  obtain ⟨k, hk⟩ := k
  by_cases h : k < 4864
  · have e : k % 4864 * 2 + k / 4864 = 2 * k := by omega
    have hg : k / 64 % 76 = 2 * k / 128 := by omega
    have hp : 2 * k % 2 = 0 := by omega
    have hr : 2 * k / 2 = k := by omega
    simp only [dif_pos h, e, hp, hr, hg, if_true]
    refine congrArg (fun v : EReal => v * _ + _) ?_
    exact congrArg (fun n : ℕ => ((n : ℝ) : EReal)) (Formula.nib_andi _)
  · obtain ⟨i, rfl⟩ : ∃ i, k = 4864 + i := ⟨k - 4864, by omega⟩
    have e : (4864 + i) % 4864 * 2 + (4864 + i) / 4864 = 2 * i + 1 := by omega
    have hg : (4864 + i) / 64 % 76 = (2 * i + 1) / 128 := by omega
    have hp : ¬ (2 * i + 1) % 2 = 0 := by omega
    have hr : (2 * i + 1) / 2 = 4864 + i - 4864 := by omega
    simp only [dif_neg h, e, if_neg hp, hr, hg]
    refine congrArg (fun v : EReal => v * _ + _) ?_
    exact congrArg (fun n : ℕ => ((n : ℝ) : EReal)) (Formula.nib_shrui _)

/-- One of the reference's products at an index is the formula's. -/
theorem prod_at (X : FVec Ideal S256x1x9728 .bf16) (W : IVec S4864x3968 8) (S M : FVec Ideal S76x3968 .bf16)
    (r : Fin 256) (o : Fin 3968) :
    prod (F := Ideal) X W S M (ix2 r o)
      = Formula.proj (fun r k => X (ix3 r 0 k)) (fun i j => W (ix2 i j)) (fun i j => S (ix2 i j)) (fun i j => M (ix2 i j)) r o := by
  pointwise [prod]
  refine Eq.trans ?_ (Formula.sum_even_odd _)
  exact Finset.sum_congr rfl fun k _ => by rw [acts_at, deq_at]

/-- The reference's gate at an index. -/
theorem act_at (g u : FVec Ideal S256x3968 .f32) (r : Fin 256) (z : Fin 1) (o : Fin 3968) :
    act (F := Ideal) g u (ix3 r z o) = Formula.gated (g (ix2 r o)) (u (ix2 r o)) := by
  pointwise [act]
  rfl

end Cert.ReferenceIdeal.Read

end
-- ==== Proof.Result.lean ====
/-
  The two runs and the equation. The kernel's run ends with its result at the gate of the two products of its arguments
  (Proof/Array.lean put through the reshape after the region); the reference's run ends with its result at the same function of
  its own arguments (Proof/RefRead.lean).
-/
module

public import proofs.«01_k».proof.Proof.Array
public import proofs.«01_k».proof.Proof.RefRead

@[expose] public section

set_option maxRecDepth 16384

noncomputable section

namespace Cert.KernelIdeal.Result

open Idealize.ShloMosaic Idealize.ShloMosaic.TcCoe Idealize.SL.Sem
open Cert.KernelIdeal Cert.KernelIdeal.Gen

/-- The result both programs leave, as a function of the seven arguments: at `(r, 0, o)` the gate of the two products. -/
def res (X : FVec Ideal S256x1x9728 .bf16) (Wg : IVec S4864x3968 8) (Sg Mg : FVec Ideal S76x3968 .bf16)
    (Wu : IVec S4864x3968 8) (Su Mu : FVec Ideal S76x3968 .bf16) : FVec Ideal S256x1x3968 .bf16 :=
  fun j => Array.value X Wg Sg Mg Wu Su Mu (j 0) (j 2)

/-- The array the kernel writes, with the unit axis put back. -/
theorem reshape_G (X : FVec Ideal S256x1x9728 .bf16) (Wg : IVec S4864x3968 8) (Sg Mg : FVec Ideal S76x3968 .bf16)
    (Wu : IVec S4864x3968 8) (Su Mu : FVec Ideal S76x3968 .bf16) :
    shapeCast S256x1x3968 (Array.G X Wg Sg Mg Wu Su Mu) shapeCasts_S256x3968_S256x1x3968 = res X Wg Sg Mg Wu Su Mu := by
  funext j
  idx_vars j
  pointwise
  rfl

variable (m : (ℓ : Loc nD τ sig) → Buf (Elt Ideal) ℓ) (ρ : Dev nD → PrngReg)

/-- No two windows stage the same array. -/
theorem arrRef_inj : Function.Injective (Pipeline.arrRef spec0) := by decide

/-- The reshape after the region leaves the result at the kernel's array with the unit axis put back. -/
theorem tail (c : Dev nD) : Pipeline.afterTail₀ cfgs (dats m) 0 (V0 m) [hostOps1] c main_v2
    = shapeCast S256x1x3968 ((dats m 0 c).arrAt 7 (cfgs 0).N) shapeCasts_S256x3968_S256x1x3968 := by
  unfold Pipeline.afterTail₀
  rw [← Pipeline.withArrays_arr spec0 arrRef_inj c (V0 m c) (fun w => (dats m 0 c).arrAt w (cfgs 0).N) 7]
  show StableHlo.after hostOps1 _ (Proc.devRef .tc main_v2) = _
  after_results
  rfl

/-- The kernel's run: every execution ends with the result at `res` of the arguments, the arguments unchanged. -/
theorem run : θ_run defs (onTc (τ := τ) (main (F := Ideal))) ⟨m, fun _ => 0, ρ⟩ (fun r => ∀ c : Dev nD,
    r.2.mem ((c.tc : Thread nD τ).loc main_v2)
      = res (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun r h c => ⟨((h.1 c).2 main_v2 (Pipeline.mem_restRefs_of main_v2 (by decide) (by decide))).trans
      ((tail m c).trans ((congrArg (fun v => shapeCast S256x1x3968 v shapeCasts_S256x3968_S256x1x3968) (Array.final m c)).trans
        (reshape_G _ _ _ _ _ _ _))), h.2 c⟩)
    (θ_run_and (run_main m ρ) (unchanged m ρ))

end Cert.KernelIdeal.Result

namespace Cert.ReferenceIdeal.Result

open Idealize.ShloMosaic Idealize.ShloMosaic.TcCoe Idealize.SL.Sem
open Cert.ReferenceIdeal Cert.ReferenceIdeal.Gen

/-- The reference's result is `res` of its arguments. -/
theorem res_out (m : (ℓ : Loc nD τ sig) → Buf (Elt Ideal) ℓ) (c : Dev nD) :
    Value.res_out0 m c = Cert.KernelIdeal.Result.res (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  rw [Read.res_eq]
  funext j
  change S256x1x3968.Idx at j
  idx_vars j
  refine (Read.act_at _ _ j0 j1 j2).trans ?_
  exact congrArg₂ Formula.gated (Read.prod_at _ _ _ _ j0 j2) (Read.prod_at _ _ _ _ j0 j2)

end Cert.ReferenceIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- `Cert.quiescent_Kernel`: the kernel as printed runs, leaves its arguments unchanged and every counter at zero. -/
theorem frame_kernel : Cert.quiescent_Kernel := fun m ρ _ => Cert.Kernel.Gen.frame m ρ

/-- `Cert.quiescent_KernelIdeal`: the same of the idealized kernel. -/
theorem frame_kernelIdeal : Cert.quiescent_KernelIdeal := fun m ρ _ => Cert.KernelIdeal.Gen.frame m ρ

/-- `Cert.quiescent_ReferenceIdeal`: the host run read at the arguments; it declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- `Cert.algebraic_KernelIdeal_ReferenceIdeal`: both runs end at the gate of the two products of arguments that agree. -/
theorem algebraic : Cert.algebraic_KernelIdeal_ReferenceIdeal := by
  intro m ρ m' ρ' _ hagree
  refine ⟨_, Cert.KernelIdeal.Result.run m ρ, (θ_run Cert.ReferenceIdeal.defs _ _).mono (fun r h c => ⟨?_, (h c).2⟩)
    (Cert.ReferenceIdeal.Value.run (F := Ideal) m' ρ')⟩
  refine (h c).1.trans ((Cert.ReferenceIdeal.Result.res_out m' c).trans ?_)
  obtain ⟨e0, e1, e2, e3, e4, e5, e6⟩ := hagree c
  rw [e0, e1, e2, e3, e4, e5, e6]

/-- The certificate: all five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
